-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x1024x4096 : Shape := ⟨3, ![4, 1024, 4096]⟩
abbrev S8192x1024 : Shape := ⟨2, ![8192, 1024]⟩
abbrev S4x1024x512 : Shape := ⟨3, ![4, 1024, 512]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4x1024x4096, .f32⟩
  | .hbm, ⟨1, _⟩ => ⟨S8192x1024, .f32⟩
  | .hbm, ⟨2, _⟩ => ⟨S4x1024x4096, .f32⟩
  | .local _ .vmem, ⟨0, _⟩ => ⟨S4x1024x512, .f32⟩
  | .local _ .vmem, ⟨1, _⟩ => ⟨S4x1024x512, .f32⟩
  | .local _ .vmem, ⟨2, _⟩ => ⟨S512x1024, .f32⟩
  | .local _ .vmem, ⟨3, _⟩ => ⟨S512x1024, .f32⟩
  | .local _ .vmem, ⟨4, _⟩ => ⟨S4x1024x512, .f32⟩
  | .local _ .vmem, ⟨5, _⟩ => ⟨S4x1024x512, .f32⟩
  | .local _ .vmem, ⟨6, _⟩ => ⟨S1024x512, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S4x1024x4096 : Shape := ⟨3, ![4, 1024, 4096]⟩
abbrev S8192x1024 : Shape := ⟨2, ![8192, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S1x4096x1024 : Shape := ⟨3, ![1, 4096, 1024]⟩
abbrev S1x1024x4096 : Shape := ⟨3, ![1, 1024, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S8192x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S_, .i1⟩
  | .hbm, ⟨22, _⟩ => ⟨S4096, .i1⟩
  | .hbm, ⟨23, _⟩ => ⟨S4096, .i1⟩
  | .hbm, ⟨24, _⟩ => ⟨S4096, .i1⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S1, .i32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S1x1, .i32⟩
  | .hbm, ⟨41, _⟩ => ⟨S4096x1, .i32⟩
  | .hbm, ⟨42, _⟩ => ⟨S4096x1, .i1⟩
  | .hbm, ⟨43, _⟩ => ⟨S4096x1, .i1⟩
  | .hbm, ⟨44, _⟩ => ⟨S_, .i1⟩
  | .hbm, ⟨45, _⟩ => ⟨S4096, .i1⟩
  | .hbm, ⟨46, _⟩ => ⟨S4096x1024, .f32⟩
  | .hbm, ⟨47, _⟩ => ⟨S4096x1024, .i1⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S1x4096x1024, .f32⟩
  | .hbm, ⟨52, _⟩ => ⟨S1x1024x4096, .f32⟩
  | .hbm, ⟨53, _⟩ => ⟨S4x1024x4096, .f32⟩
  | .hbm, ⟨54, _⟩ => ⟨S4x1024x4096, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v3 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩

abbrev nD : Nat := 1
abbrev τ : Topo := Topo.v7x

variable {F : FTy → Type} [FloatOps F]
-- ==== Proof.PosAdd.lean ====
/- Hand-written: the function that the kernel and the reference both compute, and the kernel's block operations read at an
   index. The result's entry `(b, d, t)` is the input's entry `(b, d, t)` plus entry `(t, d)` of the positional table: the
   sequence has 4096 positions and the table 8192 rows, so `t mod 8192 = t`. Every statement is for any float values. -/
module

public import Idealize.ShloMosaic.Lib.Pipeline.Value
public import Idealize.ShloMosaic.Lib.ValueIdx

@[expose] public section

noncomputable section

namespace Cert.PosAdd

open Idealize.ShloMosaic Idealize.ShloMosaic.ValueIdx

variable {F : FTy → Type} [FloatOps F]

/-- The shape of the input and of the result: batch, feature, position. -/
abbrev SeqShape : Shape := ⟨3, ![4, 1024, 4096]⟩
/-- The shape of the positional table: position, feature. -/
abbrev TableShape : Shape := ⟨2, ![8192, 1024]⟩
/-- The shape of one grid point's block of the input and of the result. -/
abbrev SeqBlock : Shape := ⟨3, ![4, 1024, 512]⟩
/-- The shape of one grid point's block of table rows. -/
abbrev RowBlock : Shape := ⟨2, ![512, 1024]⟩
/-- The shape of the transposed block of table rows. -/
abbrev ColBlock : Shape := ⟨2, ![1024, 512]⟩

/-- Position `t` of the sequence as a row of the table, which has twice as many rows. -/
def rowOf (t : Fin 4096) : Fin 8192 := ⟨t.val, by omega⟩

/-- The result as one function of the two arguments: entry `(b, d, t)` is `x[b, d, t] + w[t, d]`. -/
def sumAt (x : Vec F SeqShape .f32) (w : Vec F TableShape .f32) : Vec F SeqShape .f32 :=
  fun i => FloatOps.addf (x i) (w (ix2 (rowOf (i 2)) (i 1)))

/-- The transposed block of table rows holds at `(d, j)` the block's entry `(j, d)`. -/
theorem transposed_at (w : Vec F RowBlock .f32) (h : RowBlock.Transposes [1, 0] ColBlock) (k : ColBlock.Idx) :
    transpose ColBlock [1, 0] w h k = w (ix2 (k 1) (k 0)) :=
  transpose_apply _ w h k _ fun b => match b with | ⟨0, _⟩ => rfl | ⟨1, _⟩ => rfl

/-- A `[1024, 512]` block given a leading unit axis and repeated along the batch holds at `(b, d, j)` its entry `(d, j)`. -/
theorem repeated_at (v : Vec F ColBlock .f32) (hc : ColBlock.ShapeCasts ⟨3, ![1, 1024, 512]⟩)
    (hb : (⟨3, ![1, 1024, 512]⟩ : Shape).Broadcasts SeqBlock) (y : SeqBlock.Idx) :
    broadcastTo SeqBlock (shapeCast ⟨3, ![1, 1024, 512]⟩ v hc) hb y = v (ix2 (y 1) (y 2)) := by
  rw [broadcastTo_apply _ hb y (ix3 (0 : Fin 1) (y 1) (y 2))
    (fun a => match a with | ⟨0, _⟩ => rfl | ⟨1, _⟩ => rfl | ⟨2, _⟩ => rfl)]
  exact (shapeCast_addUnit_apply ![1024, 512] v hc (ix3 (0 : Fin 1) (y 1) (y 2))).trans
    (congrArg v (funext fun a => match a with | ⟨0, _⟩ => rfl | ⟨1, _⟩ => rfl))

/-- What a grid point stores: the input block plus the transposed block of table rows repeated along the batch holds at
    `(b, d, j)` the sum of the input block's entry `(b, d, j)` and the table block's entry `(j, d)`. -/
theorem block_at (x : Vec F SeqBlock .f32) (w : Vec F RowBlock .f32) (ht : RowBlock.Transposes [1, 0] ColBlock)
    (hs : ColBlock.ShapeCasts ColBlock) (hc : ColBlock.ShapeCasts ⟨3, ![1, 1024, 512]⟩)
    (hb : (⟨3, ![1, 1024, 512]⟩ : Shape).Broadcasts SeqBlock) (y : SeqBlock.Idx) :
    addf x (broadcastTo SeqBlock (shapeCast ⟨3, ![1, 1024, 512]⟩ (shapeCast ColBlock (transpose ColBlock [1, 0] w ht) hs) hc) hb) y
      = FloatOps.addf (x y) (w (ix2 (y 2) (y 1))) := by
  show FloatOps.addf (x y) (broadcastTo SeqBlock _ hb y) = _
  rw [shapeCast_self, repeated_at, transposed_at]

end Cert.PosAdd

end
-- ==== Proof.IdealArray.lean ====
/- Hand-written: the result array of `KernelIdeal` after its run is `sumAt` of the two arguments, for any float values. A grid
   point transposes its 512 table rows into the scratch buffer, reads them back and stores the input block plus them; point
   `t`'s blocks are positions `512 t` to `512 t + 511` of the input and of the result and the same rows of the table; the 8
   blocks cover the result. -/
module

public import proofs.«01_k».proof.Proof.Gen.KernelIdeal.Value
public import proofs.«01_k».proof.Proof.PosAdd

@[expose] public section

noncomputable section

namespace Cert.PosAdd.IdealArray

open Cert.KernelIdeal Cert.KernelIdeal.Gen Cert.KernelIdeal.Value Idealize.ShloMosaic Idealize.ShloMosaic.TcCoe Idealize.SL.Sem
open Idealize.ShloMosaic.ValueIdx

variable {F : FTy → Type} [FloatOps F]

/-- The three zero offsets are the constant zero. -/
theorem zero3 : (![0, 0, 0] : Fin 3 → Nat) = fun _ => 0 := funext fun a => by fin_cases a <;> rfl
/-- The two zero offsets are the constant zero. -/
theorem zero2 : (![0, 0] : Fin 2 → Nat) = fun _ => 0 := funext fun a => by fin_cases a <;> rfl

/-- What a grid point leaves in the result's staging buffer: at `(b, d, j)` the input block's entry plus the table block's
    entry `(j, d)`. The scratch buffer is stored whole before it is read whole, so what is read is what was stored. -/
theorem stored_at (c : Dev nD) (i : grid0.Coords) (arg2 : Memref sig .tc .vmem S4x1024x512 .f32) (h2 : arg2.IsWhole)
    (arg3 : Memref sig .tc .vmem S512x1024 .f32) (h3 : arg3.IsWhole) (arg4 : Memref sig .tc .vmem S4x1024x512 .f32)
    (h4 : arg4.IsWhole) (arg5 : Memref sig .tc .vmem S1024x512 .f32) (h5 : arg5.IsWhole) (hc : cond0_0 i)
    (x : Vec F S4x1024x512 .f32) (w : Vec F S512x1024 .f32) (y : S4x1024x512.Idx) :
    out0_A_2 c i arg2 h2 arg3 h3 arg4 h4 arg5 h5 hc x w y = FloatOps.addf (x y) (w (ix2 (y 2) (y 1))) := by
  have e : out0_A_2 c i arg2 h2 arg3 h3 arg4 h4 arg5 h5 hc x w = k0_pay2 x (k0_pay1 w) := by
    unfold out0_A_2
    rw [View.read_writes_junk_eq_canon]
    show View.canon ([⟨Rect.unit ![0, 0, 0] S4x1024x512.size inb_S4x1024x512_S4x1024x512_0_0_0,
        k0_pay2
          (View.readAt (Elt F) arg2.view (Rect.unit ![0, 0, 0] S4x1024x512.size inb_S4x1024x512_S4x1024x512_0_0_0).toLoadRect (h2.unread x))
          (arg5.view.readCov [⟨Rect.unit ![0, 0] S1024x512.size inb_S1024x512_S1024x512_0_0,
              k0_pay1 (View.readAt (Elt F) arg3.view (Rect.unit ![0, 0] S512x1024.size inb_S512x1024_S512x1024_0_0).toLoadRect (h3.unread w))⟩]
            (Rect.unit ![0, 0] S1024x512.size inb_S1024x512_S1024x512_0_0).toLoadRect)⟩] :
        List (View.Piece (Elt F) S4x1024x512 .f32)) = _
    rw [View.canon_unit_zero zero3, View.readCov_unit_zero _ zero2, View.readAt_eq_ld, View.readAt_eq_ld, h2.read_unread,
      h3.read_unread, View.ld_unit_zero zero3, View.ld_unit_zero zero2]
  rw [e]
  exact block_at x w _ _ _ _ y

variable (m : (ℓ : Loc nD τ sig) → Buf (Elt F) ℓ) (ρ : Dev nD → PrngReg)

/-- Point `t` reads and writes block `(0, 0, t)` of the input and of the result, and block `(t, 0)` of the table. -/
theorem blockIndex : ∀ t : Fin cfg0.N,
    (win0_0.index t (0 : Fin 3) = 0 ∧ win0_0.index t (1 : Fin 3) = 0 ∧ win0_0.index t (2 : Fin 3) = t.val)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = t.val) :=
  (by decide +kernel : ∀ t : Fin grid0.N, _)

/-- Entry `(b, d, j)` of point `t`'s result block is entry `(b, d, 512 t + j)` of the result. -/
theorem resultCell (t : Fin cfg0.N) (y : S4x1024x512.Idx) :
    ((((cfg0.win 2).blk t).view.emb y : S4x1024x4096.Idx) 0).val = (y 0).val
    ∧ ((((cfg0.win 2).blk t).view.emb y : S4x1024x4096.Idx) 1).val = (y 1).val
    ∧ ((((cfg0.win 2).blk t).view.emb y : S4x1024x4096.Idx) 2).val = 512 * t.val + (y 2).val := by
  obtain ⟨-, -, e0, e1, e2⟩ := blockIndex t
  refine ⟨?_, ?_, ?_⟩
  · show win0_2.index t (0 : Fin 3) * 4 + 1 * (y 0).val = _; omega
  · show win0_2.index t (1 : Fin 3) * 1024 + 1 * (y 1).val = _; omega
  · show win0_2.index t (2 : Fin 3) * 512 + 1 * (y 2).val = _; omega

/-- The input block's cells are the result block's cells. -/
theorem inputCell (t : Fin cfg0.N) (y : S4x1024x512.Idx) :
    (((cfg0.win 0).blk t).view.emb y : S4x1024x4096.Idx) = (((cfg0.win 2).blk t).view.emb y : S4x1024x4096.Idx) := by
  obtain ⟨⟨e0, e1, e2⟩, -, -⟩ := blockIndex t
  obtain ⟨r0, r1, r2⟩ := resultCell t y
  funext a; apply Fin.ext
  match a with
  | ⟨0, _⟩ => refine Eq.trans ?_ r0.symm; show win0_0.index t (0 : Fin 3) * 4 + 1 * (y 0).val = _; omega
  | ⟨1, _⟩ => refine Eq.trans ?_ r1.symm; show win0_0.index t (1 : Fin 3) * 1024 + 1 * (y 1).val = _; omega
  | ⟨2, _⟩ => refine Eq.trans ?_ r2.symm; show win0_0.index t (2 : Fin 3) * 512 + 1 * (y 2).val = _; omega

/-- Entry `(j, d)` of the table block is the table's entry for the position and the feature of the result block's cell. -/
theorem tableCell (t : Fin cfg0.N) (y : S4x1024x512.Idx) :
    (((cfg0.win 1).blk t).view.emb (ix2 (y 2) (y 1) : S512x1024.Idx) : S8192x1024.Idx)
      = ix2 (rowOf ((((cfg0.win 2).blk t).view.emb y : S4x1024x4096.Idx) 2)) ((((cfg0.win 2).blk t).view.emb y : S4x1024x4096.Idx) 1) := by
  obtain ⟨-, ⟨e0, e1⟩, -⟩ := blockIndex t
  obtain ⟨-, r1, r2⟩ := resultCell t y
  funext a; apply Fin.ext
  match a with
  | ⟨0, _⟩ => refine Eq.trans ?_ r2.symm; show win0_1.index t (0 : Fin 2) * 512 + 1 * (y 2).val = _; omega
  | ⟨1, _⟩ => refine Eq.trans ?_ r1.symm; show win0_1.index t (1 : Fin 2) * 1024 + 1 * (y 1).val = _; omega

/-- What point `t` writes back is its block of `sumAt` of the arguments as the kernel finds them. -/
theorem written (c : Dev nD) (t : Fin cfg0.N) :
    (dats m 0 c).flushed 2 t = ((cfg0.win 2).blk t).view.read (Elt F) (sumAt (V m c main_arg0) (V m c main_arg1)) := by
  rw [flushed2_A]
  funext y
  refine (stored_at c _ _ _ _ _ _ _ _ _ _ _ _ y).trans ?_
  show FloatOps.addf (V m c main_arg0 (((cfg0.win 0).blk t).view.emb y))
      (V m c main_arg1 (((cfg0.win 1).blk t).view.emb (ix2 (y 2) (y 1) : S512x1024.Idx)))
    = sumAt (V m c main_arg0) (V m c main_arg1) (((cfg0.win 2).blk t).view.emb y)
  rw [inputCell t y, tableCell t y]
  rfl

/-- Every entry of the result is in the block of the point `position / 512`. -/
theorem covered (i : S4x1024x4096.Idx) :
    ∃ t : Fin cfg0.N, (cfg0.win 2).flush t = true ∧ i ∈ ((cfg0.win 2).blk t).view.set := by
  have h2 : (i 2).val < 4096 := (i 2).isLt
  have hN : cfg0.N = 8 := rfl
  let t : Fin cfg0.N := ⟨(i 2).val / 512, by omega⟩
  let y : S4x1024x512.Idx := ix3 (i 0) (i 1) (⟨(i 2).val % 512, by omega⟩ : Fin 512)
  have hy : (((cfg0.win 2).blk t).view.emb y : S4x1024x4096.Idx) = i := by
    obtain ⟨r0, r1, r2⟩ := resultCell t y
    funext a; apply Fin.ext
    match a with
    | ⟨0, _⟩ => exact r0
    | ⟨1, _⟩ => exact r1
    | ⟨2, _⟩ => exact r2.trans (Nat.div_add_mod _ _)
  exact ⟨t, flush0_2 _, by have h := ((cfg0.win 2).blk t).view.emb_mem_set y; rwa [hy] at h⟩

/-- The result array after the run is `sumAt` of the arguments as launched. -/
theorem final (c : Dev nD) : (dats m 0 c).arrAt 2 cfg0.N
    = sumAt (m ((c : Thread nD τ).loc main_arg0)) (m ((c : Thread nD τ).loc main_arg1)) :=
  ((dats m 0 c).arrAt_eq_of_cover 2 (sumAt (V m c main_arg0) (V m c main_arg1)) (fun t _ => written m c t) covered).trans
    (by rw [V_main_arg0, V_main_arg1])

/-- Every execution ends with the result at `sumAt` of the arguments and the arguments unchanged. -/
theorem run : θ_run defs (onTc (τ := τ) (main (F := F))) ⟨m, fun _ => 0, ρ⟩ fun r => ∀ c : Dev nD,
      r.2.mem ((c : Thread nD τ).loc main_v0)
        = sumAt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.PosAdd.IdealArray

end
-- ==== Proof.PosIds.lean ====
/- Hand-written: the reference's row lookup, read at an index. The reference forms the position words `(0 + t) % 8192`,
   takes those rows of the table (with a wrap of negative words, and a fill value for words outside the table), transposes
   what it took and adds it to the input. Each position word is the word of `t` itself, no word is negative or outside the
   table, so row `t` is what is taken. Every statement is for any float values, and takes the side conditions of the
   operations as hypotheses. -/
module

public import proofs.«01_k».proof.Proof.PosAdd
public import Idealize.ShloMosaic.Lib.Routing.Words
public import Idealize.ShloMosaic.Lib.Routing.OpsPair
public import Idealize.ShloMosaic.Lib.ReduceAll

@[expose] public section

noncomputable section

namespace Cert.PosAdd

open Idealize.ShloMosaic Idealize.ShloMosaic.ValueIdx Idealize.ShloMosaic.Routing
open Idealize.ShloMosaic.WordCmp hiding select_one select_zero

variable {F : FTy → Type} [FloatOps F]

/-- A scalar word repeated along the positions. -/
def splat (h0 : shape0.BroadcastsInDim (shape1 4096) (![] : Fin 0 → Fin 1)) (a : BitVec 32) : IVec (shape1 4096) 32 :=
  broadcastInDim (shape1 4096) ![] h0 (constantI shape0 32 a)

/-- A repeated scalar is that scalar at every position. -/
theorem splat_at (h0 : shape0.BroadcastsInDim (shape1 4096) (![] : Fin 0 → Fin 1)) (a : BitVec 32) (i : (shape1 4096).Idx) :
    splat h0 a i = a := by
  unfold splat; rw [bc0]; rfl

/-- The position words: an iota plus the offset zero, modulo the number of table rows. -/
def posWords (h0 : shape0.BroadcastsInDim (shape1 4096) (![] : Fin 0 → Fin 1)) : IVec (shape1 4096) 32 :=
  pyRem h0 (addi (iotaInDim (shape1 4096) 32 0) (splat h0 0#32)) (constantI shape0 32 8192#32)

/-- The position word at `t` is the word of `t`: `t` is below 4096, hence below 8192. -/
theorem posWords_at (h0 : shape0.BroadcastsInDim (shape1 4096) (![] : Fin 0 → Fin 1)) (t : Fin 4096) :
    posWords h0 (ix1 t) = BitVec.ofNat 32 t.val := by
  have ht := t.isLt
  unfold posWords
  rw [pyRem_ap h0 _ _ (ix1 t) (a := t.val) (b := 8192) ?_ rfl (by omega) (by decide) (by decide),
    Nat.mod_eq_of_lt (by omega)]
  rw [addi_ap, iota1_ap, splat_at, BitVec.add_zero]

/-- The wrap of negative row words: a word below zero gets the number of table rows added. -/
def wrapped (h0 : shape0.BroadcastsInDim (shape1 4096) (![] : Fin 0 → Fin 1)) (p : IVec (shape1 4096) 32) : IVec (shape1 4096) 32 :=
  select (cmpi .slt p (splat h0 0#32)) (addi p (splat h0 8192#32)) p

/-- The wrap leaves the position word at `t` as it is. -/
theorem wrapped_at (h0 : shape0.BroadcastsInDim (shape1 4096) (![] : Fin 0 → Fin 1)) (t : Fin 4096) :
    wrapped h0 (posWords h0) (ix1 t) = BitVec.ofNat 32 t.val := by
  have ht := t.isLt
  unfold wrapped
  rw [select_at, cmpi_at, splat_at, posWords_at, wrap_of_lt]
  rw [toNat_ofNat_of_lt (by omega)]; omega

/-- The row words as a one-column matrix. -/
def rowWords (h0 : shape0.BroadcastsInDim (shape1 4096) (![] : Fin 0 → Fin 1))
    (h1 : (shape1 4096).BroadcastsInDim (shape2 4096 1) (![0] : Fin 1 → Fin 2)) : IVec (shape2 4096 1) 32 :=
  broadcastInDim (shape2 4096 1) ![0] h1 (wrapped h0 (posWords h0))

/-- The row word in line `t` is the word of `t`. -/
theorem rowWords_at (h0 : shape0.BroadcastsInDim (shape1 4096) (![] : Fin 0 → Fin 1))
    (h1 : (shape1 4096).BroadcastsInDim (shape2 4096 1) (![0] : Fin 1 → Fin 2)) (i : (shape2 4096 1).Idx) :
    rowWords h0 h1 i = BitVec.ofNat 32 (i 0).val := by
  unfold rowWords
  rw [broadcastInDim_apply _ h1 _ i (ix1 (i 0)) (fun a => match a with | ⟨0, _⟩ => rfl)]
  exact wrapped_at h0 (i 0)

/-- The range check of the row words: each is at least zero and at most the last row. -/
def inTable (h0 : shape0.BroadcastsInDim (shape1 4096) (![] : Fin 0 → Fin 1))
    (h1 : (shape1 4096).BroadcastsInDim (shape2 4096 1) (![0] : Fin 1 → Fin 2))
    (h2 : shape0.BroadcastsInDim (shape2 4096 1) (![] : Fin 0 → Fin 2))
    (h3 : (shape1 1).BroadcastsInDim (shape2 1 1) (![1] : Fin 1 → Fin 2))
    (h4 : (shape2 1 1).BroadcastsInDim (shape2 4096 1) (![0, 1] : Fin 2 → Fin 2)) : IVec (shape2 4096 1) 1 :=
  andi (cmpi .sge (rowWords h0 h1) (broadcastInDim (shape2 4096 1) ![] h2 (constantI shape0 32 0#32)))
    (cmpi .sle (rowWords h0 h1) (broadcastInDim (shape2 4096 1) ![0, 1] h4 (broadcastInDim (shape2 1 1) ![1] h3 (constantI (shape1 1) 32 8191#32))))

/-- Every row word passes the range check. -/
theorem inTable_at (h0 : shape0.BroadcastsInDim (shape1 4096) (![] : Fin 0 → Fin 1))
    (h1 : (shape1 4096).BroadcastsInDim (shape2 4096 1) (![0] : Fin 1 → Fin 2))
    (h2 : shape0.BroadcastsInDim (shape2 4096 1) (![] : Fin 0 → Fin 2))
    (h3 : (shape1 1).BroadcastsInDim (shape2 1 1) (![1] : Fin 1 → Fin 2))
    (h4 : (shape2 1 1).BroadcastsInDim (shape2 4096 1) (![0, 1] : Fin 2 → Fin 2)) (i : (shape2 4096 1).Idx) :
    inTable h0 h1 h2 h3 h4 i = 1#1 := by
  have hi : (i 0).val < 4096 := idx2_lt0 i
  have e : inTable h0 h1 h2 h3 h4 i
      = IntOp.andi (IntOp.cmpi .sge (rowWords h0 h1 i) (BitVec.ofNat 32 0)) (IntOp.cmpi .sle (rowWords h0 h1 i) (BitVec.ofNat 32 8191)) := rfl
  rw [e, rowWords_at, cmpi_sge_ofNat (w := 32) (by omega) (by decide), cmpi_sle_ofNat (w := 32) (by omega) (by decide),
    decide_eq_true (show 0 ≤ (i 0).val by omega), decide_eq_true (show (i 0).val ≤ 8191 by omega)]
  rfl

/-- The rows taken: the gathered row where the range check holds of the line's word, the fill value elsewhere. -/
def taken (d : GatherDims TableShape (shape2 4096 1) (shape2 4096 1024))
    (h0 : shape0.BroadcastsInDim (shape1 4096) (![] : Fin 0 → Fin 1))
    (h1 : (shape1 4096).BroadcastsInDim (shape2 4096 1) (![0] : Fin 1 → Fin 2))
    (h2 : shape0.BroadcastsInDim (shape2 4096 1) (![] : Fin 0 → Fin 2))
    (h3 : (shape1 1).BroadcastsInDim (shape2 1 1) (![1] : Fin 1 → Fin 2))
    (h4 : (shape2 1 1).BroadcastsInDim (shape2 4096 1) (![0, 1] : Fin 2 → Fin 2))
    (h5 : (shape2 4096 1).ReducesTo [1] (shape1 4096)) (h6 : 0 < shape0.numel)
    (h7 : (shape1 4096).BroadcastsInDim (shape2 4096 1024) (![0] : Fin 1 → Fin 2))
    (fill : Vec F (shape2 4096 1024) .f32) (w : Vec F TableShape .f32) : Vec F (shape2 4096 1024) .f32 :=
  select (broadcastInDim (shape2 4096 1024) ![0] h7
      (Host.reduce IntOp.andi (inTable h0 h1 h2 h3 h4) (constantI shape0 1 1#1) h5 h6))
    (Host.gather d w (rowWords h0 h1)) fill

/-- Line `t` of the rows taken is row `t` of the table. -/
theorem taken_at (d : GatherDims TableShape (shape2 4096 1) (shape2 4096 1024)) (hoff : d.offsetDims = [1])
    (hcoll : d.collapsedSliceDims = [0]) (hob : d.operandBatchingDims = []) (hsim : d.startIndexMap = [0])
    (hivd : d.indexVectorDim = 1)
    (h0 : shape0.BroadcastsInDim (shape1 4096) (![] : Fin 0 → Fin 1))
    (h1 : (shape1 4096).BroadcastsInDim (shape2 4096 1) (![0] : Fin 1 → Fin 2))
    (h2 : shape0.BroadcastsInDim (shape2 4096 1) (![] : Fin 0 → Fin 2))
    (h3 : (shape1 1).BroadcastsInDim (shape2 1 1) (![1] : Fin 1 → Fin 2))
    (h4 : (shape2 1 1).BroadcastsInDim (shape2 4096 1) (![0, 1] : Fin 2 → Fin 2))
    (h5 : (shape2 4096 1).ReducesTo [1] (shape1 4096)) (h6 : 0 < shape0.numel)
    (h7 : (shape1 4096).BroadcastsInDim (shape2 4096 1024) (![0] : Fin 1 → Fin 2))
    (fill : Vec F (shape2 4096 1024) .f32) (w : Vec F TableShape .f32) (t : Fin 4096) (e : Fin 1024) :
    taken d h0 h1 h2 h3 h4 h5 h6 h7 fill w (ix2 t e) = w (ix2 (rowOf t) e) := by
  unfold taken
  rw [select_at, broadcastInDim_apply _ h7 _ (ix2 t e) (ix1 t) (fun a => match a with | ⟨0, _⟩ => rfl),
    Host.reduce_andi_one _ _ h5 h6 _ rfl (inTable_at h0 h1 h2 h3 h4), select_one]
  exact gather_row d hoff hcoll hob hsim hivd w _ t e (rowOf t) (rowWords_at h0 h1 (ix2 t 0)) (by decide)

/-- The reference's result, given the rows it took: the input plus those rows, transposed and repeated along the batch. -/
def addTaken (h8 : (shape2 4096 1024).BroadcastsInDim (shape3 1 4096 1024) (![1, 2] : Fin 2 → Fin 3))
    (h9 : (shape3 1 4096 1024).Transposes [0, 2, 1] (shape3 1 1024 4096))
    (h10 : (shape3 1 1024 4096).BroadcastsInDim SeqShape (![0, 1, 2] : Fin 3 → Fin 3))
    (x : Vec F SeqShape .f32) (rows : Vec F (shape2 4096 1024) .f32) : Vec F SeqShape .f32 :=
  addf x (broadcastInDim SeqShape ![0, 1, 2] h10 (transpose (shape3 1 1024 4096) [0, 2, 1]
    (broadcastInDim (shape3 1 4096 1024) ![1, 2] h8 rows) h9))

/-- The reference's result at `(b, d, t)` is the input's entry plus entry `(t, d)` of the rows taken. -/
theorem addTaken_at (h8 : (shape2 4096 1024).BroadcastsInDim (shape3 1 4096 1024) (![1, 2] : Fin 2 → Fin 3))
    (h9 : (shape3 1 4096 1024).Transposes [0, 2, 1] (shape3 1 1024 4096))
    (h10 : (shape3 1 1024 4096).BroadcastsInDim SeqShape (![0, 1, 2] : Fin 3 → Fin 3))
    (x : Vec F SeqShape .f32) (rows : Vec F (shape2 4096 1024) .f32) (i : SeqShape.Idx) :
    addTaken h8 h9 h10 x rows i = FloatOps.addf (x i) (rows (ix2 (i 2) (i 1))) := by
  unfold addTaken
  show FloatOps.addf (x i) (broadcastInDim (s := shape3 1 1024 4096) SeqShape (![0, 1, 2] : Fin 3 → Fin 3) h10 _ i) = _
  rw [broadcastInDim_apply _ h10 _ i (ix3 (0 : Fin 1) (i 1) (i 2))
      (fun a => match a with | ⟨0, _⟩ => rfl | ⟨1, _⟩ => rfl | ⟨2, _⟩ => rfl),
    transpose_apply _ _ h9 _ (ix3 (0 : Fin 1) (i 2) (i 1))
      (fun b => match b with | ⟨0, _⟩ => rfl | ⟨1, _⟩ => rfl | ⟨2, _⟩ => rfl),
    broadcastInDim_apply _ h8 _ _ (ix2 (i 2) (i 1)) (fun a => match a with | ⟨0, _⟩ => rfl | ⟨1, _⟩ => rfl)]

end Cert.PosAdd

end
-- ==== Proof.IdealRef.lean ====
/- Hand-written: the result of `ReferenceIdeal` is `sumAt` of the two arguments, for any float values. The term that the run leaves
   is `addTaken` of the rows `taken`, which Proof/PosIds.lean reads at an index. -/
module

public import proofs.«01_k».proof.Proof.Gen.ReferenceIdeal.Run
public import proofs.«01_k».proof.Proof.PosIds
public import Idealize.ShloMosaic.Lib.Quiescent

@[expose] public section

noncomputable section

namespace Cert.PosAdd.IdealRef

open Cert.ReferenceIdeal Cert.ReferenceIdeal.Gen Cert.ReferenceIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ) (ρ : Dev nD → PrngReg)

set_option maxRecDepth 8192 in
/-- The reference's result, as the run leaves it, is `sumAt` of its arguments. -/
theorem value (c : Dev nD) : res_out0 m c
    = sumAt (m ((c.tc : Thread nD τ).loc main_arg0)) (m ((c.tc : Thread nD τ).loc main_arg1)) := by
  have e : res_out0 m c
      = addTaken bcast_S4096x1024_S1x4096x1024_1_2 transposes_S1x4096x1024_S1x1024x4096_0_2_1 bcast_S1x1024x4096_S4x1024x4096_0_1_2
          (m ((c.tc : Thread nD τ).loc main_arg0))
          (taken gather_S8192x1024_S4096x1_S4096x1024_1_0_n_n_0_1_11024 bcast_S_S4096 bcast_S4096_S4096x1_0 bcast_S_S4096x1
            bcast_S1_S1x1_1 bcast_S1x1_S4096x1_0_1 reducesTo_S4096x1_S4096_d1 h_S_ bcast_S4096_S4096x1024_0
            (broadcastInDim S4096x1024 ![] bcast_S_S4096x1024 (constant S_ .f32 0x7FC00000#32))
            (m ((c.tc : Thread nD τ).loc main_arg1))) := rfl
  rw [e]
  funext i
  exact (addTaken_at _ _ _ _ _ i).trans
    (congrArg (FloatOps.addf _) (taken_at _ rfl rfl rfl rfl rfl _ _ _ _ _ _ _ _ _ _ (i 2) (i 1)))

/-- Every execution ends with the result at `sumAt` of the arguments and the arguments unchanged. -/
theorem run : θ_run defs (onTc (τ := τ) (main (F := F))) ⟨m, fun _ => 0, ρ⟩ fun r => ∀ c : Dev nD,
      r.2.mem ((c.tc : Thread nD τ).loc main_v8)
        = sumAt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value m c), (h c).2⟩) (Value.run m ρ)

/-- Every execution ends with the arguments unchanged and every semaphore counter at zero: the program has no semaphore. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, Idealize.ShloMosaic.sem_eq_zero_of_no_sems (by decide) r.2⟩) (run m ρ)

end Cert.PosAdd.IdealRef

end
-- ==== Proof.BitValues.lean ====
/- Hand-written: the runs at bit values. No operation was rewritten in the ideal programs, so `Kernel` and `KernelIdeal` are
   one program under two names, and so are `Reference` and `ReferenceIdeal`; what Proof/IdealArray.lean and
   Proof/IdealRef.lean prove for any float values is therefore proved of `Kernel` and `Reference` too. -/
module

public import proofs.«01_k».proof.Proof.IdealArray
public import proofs.«01_k».proof.Proof.IdealRef
public import proofs.«01_k».proof.Proof.Gen.Kernel
public import proofs.«01_k».proof.Proof.Gen.Reference

@[expose] public section

noncomputable section

namespace Cert.PosAdd.BitValues

open Idealize.ShloMosaic Idealize.ShloMosaic.TcCoe Idealize.SL.Sem

variable {F : FTy → Type} [FloatOps F]

/-- The two kernel programs have the same body, at every grid point. -/
theorem sameBodies : Cert.Kernel.defs₀ (F := F) = Cert.KernelIdeal.defs₀ (F := F) := by
  refine congrArg Defs.onTc ?_
  funext label args
  match label, args with
  | ⟨0, _⟩, (_, _) => rfl

/-- So they have the same pipeline over that body. -/
theorem sameDefs : Cert.Kernel.defs (F := F) = Cert.KernelIdeal.defs (F := F) :=
  congrArg (Pipeline.defs Cert.KernelIdeal.pcfgs) sameBodies

open Cert.Kernel in
/-- Every execution of `Kernel` ends with the result at `sumAt` of the arguments and the arguments unchanged. -/
theorem kernelRun (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
        = sumAt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  rw [sameDefs]
  exact Cert.PosAdd.IdealArray.run (F := F) m ρ

open Cert.Reference in
/-- Every execution of `Reference` ends with the result at `sumAt` of the arguments and the arguments unchanged. -/
theorem referenceRun (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
        = sumAt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.PosAdd.IdealRef.run (F := F) m ρ

open Cert.Reference in
/-- Every execution of `Reference` ends with the arguments unchanged and every semaphore counter at zero. -/
theorem referenceFrame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  Cert.PosAdd.IdealRef.frame (F := F) m ρ

end Cert.PosAdd.BitValues

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.IdealArray
public import proofs.«01_k».proof.Proof.IdealRef
public import proofs.«01_k».proof.Proof.BitValues
public import Idealize.ShloMosaic.Adequacy
public import Idealize.ShloMosaic.Init

@[expose] public section

noncomputable section

namespace Cert.Proof

open Idealize.ShloMosaic Idealize.SL.Sem Cert.Kernel

/-- On launch contents with the same arguments, the kernel and the reference at ideal values both end with the result at
    `sumAt` of those arguments, and with their arguments unchanged. -/
theorem equalIdeal : algebraic_KernelIdeal_ReferenceIdeal :=
  fun m g m' g' _ hargs => ⟨fun c => Cert.PosAdd.sumAt (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.PosAdd.IdealArray.run m g,
    (θ_run _ _ _).mono (fun _ h c => ⟨(h c).1.trans (congrArg₂ Cert.PosAdd.sumAt (hargs c).1 (hargs c).2), (h c).2⟩) (Cert.PosAdd.IdealRef.run m' g')⟩

/-- The same at bit values: the kernel's result is the reference's result bit for bit. -/
theorem equalBits : bitexact_Kernel_Reference :=
  fun m g m' g' _ hargs => ⟨fun c => Cert.PosAdd.sumAt (m ((c.tc : Thread Cert.Kernel.nD Cert.Kernel.τ).loc Cert.Kernel.main_arg0))
      (m ((c.tc : Thread Cert.Kernel.nD Cert.Kernel.τ).loc Cert.Kernel.main_arg1)),
    Cert.PosAdd.BitValues.kernelRun m g,
    (θ_run _ _ _).mono (fun _ h c => ⟨(h c).1.trans (congrArg₂ Cert.PosAdd.sumAt (hargs c).1 (hargs c).2), (h c).2⟩) (Cert.PosAdd.BitValues.referenceRun m' g')⟩

/-- Every claim of this certificate. -/
theorem claim : Cert.Claim :=
  ⟨Cert.Kernel.Gen.facts, Cert.KernelIdeal.Gen.facts, Cert.Reference.Gen.facts, Cert.ReferenceIdeal.Gen.facts,
    fun m g _ => Cert.Kernel.Gen.frame m g, fun m g _ => Cert.KernelIdeal.Gen.frame m g,
    fun m g _ => Cert.PosAdd.BitValues.referenceFrame m g, fun m g _ => Cert.PosAdd.IdealRef.frame m g,
    trivial, equalIdeal, equalBits⟩

end Cert.Proof

end
